-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_representable [hPre_representable : Cert.Pre_representable.Facts] (m : (ℓ : Loc Cert.KernelIdeal.nD Cert.KernelIdeal.τ Cert.KernelIdeal.sig) → Buf (Elt Ideal) ℓ) : Prop :=
  ∀ c : Dev Cert.KernelIdeal.nD,
    (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_representable [hPre_representable : Cert.Pre_representable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_representable [hKernelIdeal : Cert.KernelIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_representable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_representable [hReferenceIdeal : Cert.ReferenceIdeal.Facts] [hPre_representable : Cert.Pre_representable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_representable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_representable [hKernelIdeal : Cert.KernelIdeal.Facts] [hReferenceIdeal : Cert.ReferenceIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_representable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_representable : Cert.Pre_representable.Facts),
    quiescent_Kernel (hKernel := hKernel)
    ∧ quiescent_KernelIdeal (hKernelIdeal := hKernelIdeal)
    ∧ quiescent_KernelIdeal_pre_representable (hKernelIdeal := hKernelIdeal) (hPre_representable := hPre_representable)
    ∧ quiescent_ReferenceIdeal (hReferenceIdeal := hReferenceIdeal)
    ∧ quiescent_ReferenceIdeal_pre_representable (hReferenceIdeal := hReferenceIdeal) (hPre_representable := hPre_representable)
    ∧ preserves_Kernel_KernelIdeal
    ∧ algebraic_KernelIdeal_ReferenceIdeal_pre_representable (hKernelIdeal := hKernelIdeal) (hReferenceIdeal := hReferenceIdeal) (hPre_representable := hPre_representable)
-- ==== Pre_representable.lean ====
abbrev S1x3072x5120 : Shape := ⟨3, ![1, 3072, 5120]⟩
abbrev S5120x5120 : Shape := ⟨2, ![5120, 5120]⟩
abbrev S5120 : Shape := ⟨1, ![5120]⟩
abbrev S_ : Shape := ⟨0, ![]⟩

class Facts : Prop where
  bcast_S_S1x3072x5120 : S_.BroadcastsInDim S1x3072x5120 (![] : Fin 0 → Fin S1x3072x5120.rank)

variable [Facts]

def fn {F : FTy → Type} [FloatOps F] (main_arg0 : FVec F S1x3072x5120 .bf16) (main_arg1 : FVec F S5120x5120 .fp8e4m3) (main_arg2 : FVec F S5120 .f32) : IVec S1x3072x5120 1 :=
  let main_v0 : FVec F S1x3072x5120 .bf16 := Host.absf main_arg0
  let main_cst : FVec F S_ .bf16 := constant S_ .bf16 0x7F7F#16
  let main_v1 : FVec F S1x3072x5120 .bf16 := broadcastInDim S1x3072x5120 ![] bcast_S_S1x3072x5120 main_cst
  let main_v2 : IVec S1x3072x5120 1 := cmpf .ole main_v0 main_v1
  let main_cst_0 : FVec F S_ .bf16 := constant S_ .bf16 0x7F80#16
  let main_v3 : FVec F S1x3072x5120 .bf16 := broadcastInDim S1x3072x5120 ![] bcast_S_S1x3072x5120 main_cst_0
  let main_v4 : IVec S1x3072x5120 1 := cmpf .oeq main_v0 main_v3
  let main_v5 : IVec S1x3072x5120 1 := ori main_v2 main_v4
  main_v5
-- ==== Kernel.lean ====
abbrev S1x3072x5120 : Shape := ⟨3, ![1, 3072, 5120]⟩
abbrev S5120x5120 : Shape := ⟨2, ![5120, 5120]⟩
abbrev S5120 : Shape := ⟨1, ![5120]⟩
abbrev S3072x5120 : Shape := ⟨2, ![3072, 5120]⟩
abbrev S1x5120 : Shape := ⟨2, ![1, 5120]⟩
abbrev S3072x1 : Shape := ⟨2, ![3072, 1]⟩
abbrev S256x5120 : Shape := ⟨2, ![256, 5120]⟩
abbrev S256x1 : Shape := ⟨2, ![256, 1]⟩
abbrev S256 : Shape := ⟨1, ![256]⟩
abbrev S512x5120 : Shape := ⟨2, ![512, 5120]⟩
abbrev S256x512 : Shape := ⟨2, ![256, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S1x3072x5120, .bf16⟩
  | .hbm, ⟨1, _⟩ => ⟨S5120x5120, .fp8e4m3⟩
  | .hbm, ⟨2, _⟩ => ⟨S5120, .f32⟩
  | .hbm, ⟨3, _⟩ => ⟨S3072x5120, .bf16⟩
  | .hbm, ⟨4, _⟩ => ⟨S1x5120, .f32⟩
  | .hbm, ⟨5, _⟩ => ⟨S3072x5120, .bf16⟩
  | .hbm, ⟨6, _⟩ => ⟨S3072x5120, .fp8e5m2⟩
  | .hbm, ⟨7, _⟩ => ⟨S3072x1, .f32⟩
  | .local _ .vmem, ⟨0, _⟩ => ⟨S256x5120, .bf16⟩
  | .local _ .vmem, ⟨1, _⟩ => ⟨S256x5120, .bf16⟩
  | .local _ .vmem, ⟨2, _⟩ => ⟨S5120x5120, .fp8e4m3⟩
  | .local _ .vmem, ⟨3, _⟩ => ⟨S1x5120, .f32⟩
  | .local _ .vmem, ⟨4, _⟩ => ⟨S256x5120, .bf16⟩
  | .local _ .vmem, ⟨5, _⟩ => ⟨S256x5120, .bf16⟩
  | .local _ .vmem, ⟨6, _⟩ => ⟨S256x5120, .fp8e5m2⟩
  | .local _ .vmem, ⟨7, _⟩ => ⟨S256x5120, .fp8e5m2⟩
  | .local _ .vmem, ⟨8, _⟩ => ⟨S256x1, .f32⟩
  | .local _ .vmem, ⟨9, _⟩ => ⟨S256x1, .f32⟩
  | _, _ => ⟨S1x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x3072x5120 : Shape := ⟨3, ![1, 3072, 5120]⟩
abbrev S5120x5120 : Shape := ⟨2, ![5120, 5120]⟩
abbrev S5120 : Shape := ⟨1, ![5120]⟩
abbrev S3072x5120 : Shape := ⟨2, ![3072, 5120]⟩
abbrev S1x5120 : Shape := ⟨2, ![1, 5120]⟩
abbrev S3072x1 : Shape := ⟨2, ![3072, 1]⟩
abbrev S3072 : Shape := ⟨1, ![3072]⟩
abbrev S1x254 : Shape := ⟨2, ![1, 254]⟩
abbrev S3072x254 : Shape := ⟨2, ![3072, 254]⟩

abbrev nBuf : Space → Nat
  | .hbm => 8
  | .vmem => 6
  | .smem => 0
  | _ => 0

abbrev bufTy : (tb : Table) → Fin (tcTables nBuf tb) → BufTy
  | .hbm, ⟨0, _⟩ => ⟨S1x3072x5120, .bf16⟩
  | .hbm, ⟨1, _⟩ => ⟨S5120x5120, .fp8e4m3⟩
  | .hbm, ⟨2, _⟩ => ⟨S5120, .f32⟩
  | .hbm, ⟨3, _⟩ => ⟨S3072x5120, .bf16⟩
  | .hbm, ⟨4, _⟩ => ⟨S1x5120, .f32⟩
  | .hbm, ⟨5, _⟩ => ⟨S3072x5120, .bf16⟩
  | .hbm, ⟨6, _⟩ => ⟨S3072x5120, .fp8e5m2⟩
  | .hbm, ⟨7, _⟩ => ⟨S3072x1, .f32⟩
  | .local _ .vmem, ⟨0, _⟩ => ⟨S3072x5120, .bf16⟩
  | .local _ .vmem, ⟨1, _⟩ => ⟨S5120x5120, .fp8e4m3⟩
  | .local _ .vmem, ⟨2, _⟩ => ⟨S1x5120, .f32⟩
  | .local _ .vmem, ⟨3, _⟩ => ⟨S3072x5120, .bf16⟩
  | .local _ .vmem, ⟨4, _⟩ => ⟨S3072x5120, .fp8e5m2⟩
  | .local _ .vmem, ⟨5, _⟩ => ⟨S3072x1, .f32⟩
  | _, _ => ⟨S1x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x5120 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  THE QUANTISER'S SCALE, as arithmetic on one extended real.

  From `v` — a row's largest magnitude over the largest number of the 8-bit format — both programs take a power of two.
  The KERNEL finds the exponent field of a float32 number of `v`'s size by a binary search that compares `v` with powers
  of two (`search`), turns it into an exponent (`kexp`) and writes the scale and its inverse as float32 words (`kscale`,
  `kinv`). The REFERENCE looks the exponent up among all of the format's exponents (`rexp`: the one `k` with
  `2^(k-1) ≤ v < 2^k`, else 0; 0 for a row of zeros) and takes `2^e` and `2^(-e)` (`rscale`, `rinv`).

  `scale_eq` and `inv_eq` say the two agree for every largest magnitude `a` that is a bfloat16 number's size or infinite.
-/
module

public import Idealize.ShloMosaic.PureOps.Ideal
public import Idealize.ShloMosaic.Lib.Pointwise

@[expose] public section

set_option maxRecDepth 16384

noncomputable section

namespace Cert.Scale

open Idealize.ShloMosaic

/-! ## The two programs' scalar terms -/

/-- One step of the search: try the bit `b` on top of the exponent field `n` found so far. -/
def step (v : EReal) (b n : BitVec 32) : BitVec 32 :=
  Scalar.select (Ideal.cmp .oge v (Ideal.ofBits .f32 (IntOp.shli .vector (IntOp.addi n b) 23#32))) (IntOp.addi n b) n

/-- The exponent field of `v`, its eight bits tried from the highest down. -/
def search (v : EReal) : BitVec 32 :=
  step v 1#32 (step v 2#32 (step v 4#32 (step v 8#32 (step v 16#32 (step v 32#32 (step v 64#32 (step v 128#32 0#32)))))))

/-- What a row's largest magnitude is multiplied by: the float32 number nearest one over the 8-bit format's largest. -/
def ratio : EReal := Ideal.ofBits .f32 0x37924925#32

/-- The kernel's exponent of a row whose largest magnitude is `a`: 0 for the fields 0 and 255 and for `a = 0`. -/
def kexp (a : EReal) : BitVec 32 :=
  Scalar.select (IntOp.ori (IntOp.ori (IntOp.cmpi .eq (search (a * ratio)) 0#32) (IntOp.cmpi .eq (search (a * ratio)) 255#32))
    (Ideal.cmp .oeq a (Ideal.ofBits .f32 0#32))) 0#32 (IntOp.subi (search (a * ratio)) 126#32)

/-- The kernel's scale: the float32 word whose exponent field is 127 more than the exponent. -/
def kscale (a : EReal) : EReal := Ideal.ofBits .f32 (IntOp.shli .vector (IntOp.addi 127#32 (kexp a)) 23#32)

/-- The kernel's inverse scale: the float32 word whose exponent field is 127 less the exponent. -/
def kinv (a : EReal) : EReal := Ideal.ofBits .f32 (IntOp.shli .vector (IntOp.subi 127#32 (kexp a)) 23#32)

/-- The reference's `k`-th exponent, from -125 up. -/
def cand (k : Fin 254) : BitVec 32 := IntOp.subi (BitVec.ofNat 32 k) 125#32

/-- Two to a word's integer. -/
def two (e : BitVec 32) : EReal := Ideal.exp2 ((e.toInt : ℝ) : EReal)

/-- The sum of the exponents `k` with `2^(k-1) ≤ v < 2^k`, of which there is at most one. -/
def look (a : EReal) : BitVec 32 :=
  Finset.univ.fold IntOp.addi 0#32 fun k : Fin 254 =>
    Scalar.select (IntOp.andi (Ideal.cmp .ole (Ideal.ofBits .f32 0x3F000000#32 * two (cand k)) (a * ratio))
      (Ideal.cmp .olt (a * ratio) (two (cand k)))) (cand k) 0#32

/-- The reference's exponent of a row whose largest magnitude is `a`: 0 for `a = 0`, else looked up. -/
def rexp (a : EReal) : BitVec 32 := Scalar.select (Ideal.cmp .oeq a (Ideal.ofBits .f32 0#32)) 0#32 (look a)

/-- The reference's scale. -/
def rscale (a : EReal) : EReal := two (rexp a)

/-- The reference's inverse scale. -/
def rinv (a : EReal) : EReal := two (IntOp.subi 0#32 (rexp a))

/-- The largest finite bfloat16 number. -/
def largest : EReal := Ideal.ofBits .bf16 0x7F7F#16

/-- A size that a bfloat16 number has, or infinite. -/
def Representable (a : EReal) : Prop := a ≤ largest ∨ a = ⊤

/-! ## Powers of two as float32 words -/

/-- What the float32 word with exponent field `t` and no other bit denotes, for a field from 1 to 255. -/
def pow (t : Nat) : EReal := if t = 255 then ⊤ else (((2 : ℝ) ^ ((t : Int) - 127) : ℝ) : EReal)

/-- The word of field `t` has sign 0, field `t` and fraction 0. -/
theorem fields : ∀ t : Fin 256, (BitVec.ofNat 32 t <<< 23).extractLsb' (8 + 23) 1 = 0#1
    ∧ ((BitVec.ofNat 32 t <<< 23).extractLsb' 23 8).toNat = t ∧ ((BitVec.ofNat 32 t <<< 23).extractLsb' 0 23).toNat = 0 := by
  decide +kernel

/-- A positive normal number's word of exponent field `ex` and fraction `fr`. -/
theorem ieee_normal {w : Nat} (e m : Nat) (b : BitVec w) (ex fr : Nat) (hs : b.extractLsb' (e + m) 1 = 0#1)
    (he : (b.extractLsb' m e).toNat = ex) (hf : (b.extractLsb' 0 m).toNat = fr) (h1 : ex ≠ 2 ^ e - 1) (h2 : ex ≠ 0) :
    Ideal.ieee e m b = (((2 ^ m + fr : Nat) * (2 : ℝ) ^ ((ex : Int) - (2 ^ (e - 1) - 1) - m) : ℝ) : EReal) := by
  unfold Ideal.ieee
  simp only [hs, he, hf, h1, h2, if_false]
  rw [if_neg (by decide), one_mul]

/-- It denotes `pow t`. -/
theorem ofBits_pow (t : Nat) (h1 : 1 ≤ t) (h2 : t ≤ 255) : Ideal.ofBits .f32 (BitVec.ofNat 32 t <<< 23) = pow t := by
  obtain ⟨f1, f2, f3⟩ := fields ⟨t, by omega⟩
  dsimp only at f1 f2 f3
  show Ideal.ieee 8 23 (BitVec.ofNat 32 t <<< 23) = _
  by_cases h : t = 255
  · unfold Ideal.ieee pow
    simp only [f1, f2, f3]
    simp [h]
  · rw [ieee_normal 8 23 _ t 0 f1 f2 f3 (by omega) (by omega)]
    unfold pow
    rw [if_neg h, EReal.coe_eq_coe_iff]
    have e : (((2 ^ 23 + 0 : Nat) : ℝ)) = (2 : ℝ) ^ (23 : Int) := by norm_num
    rw [e, ← zpow_add₀ (by norm_num : (2 : ℝ) ≠ 0)]
    refine congrArg (fun z : Int => (2 : ℝ) ^ z) ?_
    show (23 : Int) + ((t : Int) - (2 ^ 7 - 1) - 23) = (t : Int) - 127
    ring

/-- The shift by 23 of a word under 32 bits' rule is the plain shift. -/
theorem shli23 (x : BitVec 32) : IntOp.shli .vector x 23#32 = x <<< 23 := by
  unfold IntOp.shli
  rw [if_pos (by decide)]
  rfl

/-- Below the field 255, `pow t` is the real power of two. -/
theorem pow_coe (t : Nat) (h : t ≠ 255) : pow t = (((2 : ℝ) ^ ((t : Int) - 127) : ℝ) : EReal) := if_neg h

/-- Larger fields denote larger numbers. -/
theorem pow_mono {s t : Nat} (h : s ≤ t) (ht : t ≤ 255) : pow s ≤ pow t := by
  by_cases h1 : t = 255
  · rw [h1]; unfold pow; simp
  · rw [pow_coe s (by omega), pow_coe t h1, EReal.coe_le_coe_iff]
    exact zpow_le_zpow_right₀ (by norm_num) (by omega)

/-! ## The field the search finds -/

/-- The largest field whose power of two is at most `v` (0 when there is none). -/
def field (v : EReal) : Nat := by
  classical exact Nat.findGreatest (fun t => pow t ≤ v) 255

/-- A field is at most 255. -/
theorem field_le (v : EReal) : field v ≤ 255 := Nat.findGreatest_le _

/-- A field's power is at most `v` exactly if the field is at most `field v`. -/
theorem le_field (v : EReal) {t : Nat} (h1 : 1 ≤ t) (h2 : t ≤ 255) : pow t ≤ v ↔ t ≤ field v := by
  classical
  constructor
  · intro h; exact Nat.le_findGreatest h2 h
  · intro h
    have hn : field v ≠ 0 := by omega
    have := Nat.findGreatest_of_ne_zero (P := fun t => pow t ≤ v) (n := 255) rfl hn
    exact (pow_mono h (field_le v)).trans this

/-- A comparison's bit is one just when the comparison holds. -/
theorem cmp_eq_one {p : Prop} [Decidable p] : BitVec.ofBool (decide p) = 1 ↔ p := by
  by_cases h : p <;> simp [h]

/-- One step of the search keeps the field between the one found and `b` more. -/
theorem step_spec (v : EReal) (b m : Nat) (hb : 1 ≤ b) (h1 : m ≤ field v) (h2 : field v < m + (b + b)) (h3 : m + (b + b) ≤ 256) :
    ∃ m', step v (BitVec.ofNat 32 b) (BitVec.ofNat 32 m) = BitVec.ofNat 32 m' ∧ m' ≤ field v ∧ field v < m' + b ∧ m' + b ≤ 256 := by
  have e : IntOp.addi (BitVec.ofNat 32 m) (BitVec.ofNat 32 b) = BitVec.ofNat 32 (m + b) := (BitVec.ofNat_add m b).symm
  unfold step Scalar.select Ideal.cmp
  rw [e, shli23, ofBits_pow (m + b) (by omega) (by omega)]
  have := le_field v (t := m + b) (by omega) (by omega)
  by_cases h : pow (m + b) ≤ v
  · exact ⟨m + b, if_pos (cmp_eq_one.2 h), this.1 h, by omega, by omega⟩
  · exact ⟨m, if_neg (fun h' => h (cmp_eq_one.1 h')), h1, by
      have : ¬ m + b ≤ field v := fun h' => h (this.2 h')
      omega, by omega⟩

/-- THE SEARCH FINDS THE FIELD. -/
theorem search_eq (v : EReal) : search v = BitVec.ofNat 32 (field v) := by
  have hf := field_le v
  unfold search
  obtain ⟨m1, e1, a1, b1, c1⟩ := step_spec v 128 0 (by omega) (by omega) (by omega) (by omega)
  obtain ⟨m2, e2, a2, b2, c2⟩ := step_spec v 64 m1 (by omega) a1 b1 c1
  obtain ⟨m3, e3, a3, b3, c3⟩ := step_spec v 32 m2 (by omega) a2 b2 c2
  obtain ⟨m4, e4, a4, b4, c4⟩ := step_spec v 16 m3 (by omega) a3 b3 c3
  obtain ⟨m5, e5, a5, b5, c5⟩ := step_spec v 8 m4 (by omega) a4 b4 c4
  obtain ⟨m6, e6, a6, b6, c6⟩ := step_spec v 4 m5 (by omega) a5 b5 c5
  obtain ⟨m7, e7, a7, b7, c7⟩ := step_spec v 2 m6 (by omega) a6 b6 c6
  obtain ⟨m8, e8, a8, b8, c8⟩ := step_spec v 1 m7 (by omega) a7 b7 c7
  rw [e1, e2, e3, e4, e5, e6, e7, e8]
  congr 1
  omega

/-! ## The sizes that occur -/

/-- The ratio is a positive real below `2^(-15)`. -/
theorem ratio_coe : ∃ r : ℝ, ratio = (r : EReal) ∧ 0 < r ∧ r < (2 : ℝ) ^ (-15 : Int) := by
  refine ⟨_, ieee_normal 8 23 0x37924925#32 111 1198373 (by decide) (by decide) (by decide) (by decide) (by decide),
    by positivity, ?_⟩
  norm_num

/-- The largest bfloat16 number is a positive real below `2^128`. -/
theorem largest_coe : ∃ r : ℝ, largest = (r : EReal) ∧ 0 < r ∧ r < (2 : ℝ) ^ (128 : Int) := by
  refine ⟨_, ieee_normal 8 7 0x7F7F#16 254 127 (by decide) (by decide) (by decide) (by decide) (by decide),
    by positivity, ?_⟩
  norm_num

/-- A representable magnitude times the ratio is infinite or below two to the 113. -/
theorem mul_ratio {a : EReal} (h : Representable a) : a * ratio = ⊤ ∨ a * ratio < pow 240 := by
  obtain ⟨r, hr, r0, r1⟩ := ratio_coe
  obtain ⟨l, hl, l0, l1⟩ := largest_coe
  rw [hr]
  rcases h with h | h
  · right
    rw [hl] at h
    induction a using EReal.rec with
    | bot => rw [EReal.bot_mul_coe_of_pos r0, pow_coe 240 (by decide)]; exact EReal.bot_lt_coe _
    | top => exact absurd h (by simp)
    | coe a =>
      rw [EReal.coe_le_coe_iff] at h
      rw [pow_coe 240 (by decide), ← EReal.coe_mul, EReal.coe_lt_coe_iff]
      calc a * r ≤ l * r := mul_le_mul_of_nonneg_right h r0.le
        _ < (2 : ℝ) ^ (128 : Int) * (2 : ℝ) ^ (-15 : Int) := mul_lt_mul l1 r1.le r0 (by positivity)
        _ = (2 : ℝ) ^ (((240 : Nat) : Int) - 127) := by rw [← zpow_add₀ (by norm_num : (2 : ℝ) ≠ 0)]; norm_num
  · left; rw [h, EReal.top_mul_coe_of_pos r0]

/-- The field of infinity is 255. -/
theorem field_top : field ⊤ = 255 :=
  le_antisymm (field_le _) ((le_field ⊤ (by omega) (by omega)).1 le_top)

/-- Below the power of the field `t`, the field is below `t`. -/
theorem field_lt {v : EReal} {t : Nat} (h1 : 1 ≤ t) (h2 : t ≤ 255) (h : v < pow t) : field v < t := by
  by_contra hc
  exact absurd ((le_field v h1 h2).2 (by omega)) (not_le.2 h)

/-! ## The exponent -/

/-- The exponent of the field `n`: 0 for the fields 0 and 255, else 126 less. -/
def expOf (n : Nat) : BitVec 32 := if n = 0 ∨ n = 255 then 0#32 else BitVec.ofNat 32 n - 126#32

/-- The kernel's selection at every field. -/
theorem sel_field : ∀ n : Fin 256, ∀ z : BitVec 1, (z = 1#1 → n.val = 0) →
    Scalar.select (IntOp.ori (IntOp.ori (IntOp.cmpi .eq (BitVec.ofNat 32 n) 0#32) (IntOp.cmpi .eq (BitVec.ofNat 32 n) 255#32)) z)
      0#32 (IntOp.subi (BitVec.ofNat 32 n) 126#32) = expOf n := by
  unfold Scalar.select expOf
  decide +kernel

/-- The float32 word of zero denotes zero. -/
theorem ofBits_zero : Ideal.ofBits .f32 0#32 = 0 := by
  show Ideal.ieee 8 23 0#32 = _
  unfold Ideal.ieee
  norm_num

/-- The field of a row of zeros is 0. -/
theorem field_zero {a : EReal} (hz : Ideal.cmp .oeq a (Ideal.ofBits .f32 0#32) = 1) : field (a * ratio) = 0 := by
  have ha : a = 0 := by
    rw [ofBits_zero] at hz
    exact cmp_eq_one.1 hz
  have h0 : field (a * ratio) < 1 := by
    refine field_lt (by omega) (by omega) ?_
    rw [ha, zero_mul, pow_coe 1 (by decide)]
    exact EReal.coe_pos.2 (by positivity)
  omega

/-- THE KERNEL'S EXPONENT is the exponent of the field. -/
theorem kexp_eq (a : EReal) : kexp a = expOf (field (a * ratio)) := by
  unfold kexp
  rw [search_eq]
  exact sel_field ⟨field (a * ratio), Nat.lt_succ_of_le (field_le _)⟩ _ field_zero

/-- `two e` is the real power of two at the word's integer. -/
theorem two_eq (e : BitVec 32) : two e = (((2 : ℝ) ^ e.toInt : ℝ) : EReal) := by
  unfold two
  show ((Real.rpow 2 (e.toInt : ℝ) : ℝ) : EReal) = _
  congr 1
  exact Real.rpow_intCast 2 _

/-- The `k`-th candidate is `k - 125`. -/
theorem cand_toInt : ∀ k : Fin 254, (cand k).toInt = (k.val : Int) - 125 := by
  unfold cand
  decide +kernel

/-- Half of two to the `k`-th candidate is the power of the field `k + 1`. -/
theorem half_two (k : Fin 254) : Ideal.ofBits .f32 0x3F000000#32 * two (cand k) = pow (k.val + 1) := by
  have hh : Ideal.ofBits .f32 0x3F000000#32 = (((2 : ℝ) ^ (-1 : Int) : ℝ) : EReal) := by
    refine (ieee_normal 8 23 0x3F000000#32 126 0 (by decide) (by decide) (by decide) (by decide) (by decide)).trans ?_
    congr 1
    norm_num
  rw [hh, two_eq, cand_toInt, pow_coe _ (by omega), ← EReal.coe_mul, ← zpow_add₀ (by norm_num : (2 : ℝ) ≠ 0)]
  congr 2
  push_cast
  ring

/-- Two to the `k`-th candidate is the power of the field `k + 2`. -/
theorem two_cand (k : Fin 254) (h : k.val + 2 ≤ 254) : two (cand k) = pow (k.val + 2) := by
  rw [two_eq, cand_toInt, pow_coe _ (by omega)]
  congr 2
  push_cast
  ring

/-- A sum of words that are all 0 is 0. -/
theorem fold_zero {n : Nat} (s : Finset (Fin n)) (f : Fin n → BitVec 32) (h : ∀ k ∈ s, f k = 0#32) :
    s.fold IntOp.addi 0#32 f = 0#32 := by
  induction s using Finset.induction_on with
  | empty => rfl
  | insert k s hk ih =>
    rw [Finset.fold_insert hk, h k (Finset.mem_insert_self k s), ih fun j hj => h j (Finset.mem_insert_of_mem hj)]
    rfl

/-- A sum of words that are all 0 but the one at `j` is that one. -/
theorem fold_single {n : Nat} (f : Fin n → BitVec 32) (j : Fin n) (h : ∀ k, k ≠ j → f k = 0#32) :
    Finset.univ.fold IntOp.addi 0#32 f = f j := by
  rw [← Finset.insert_erase (Finset.mem_univ j), Finset.fold_insert (Finset.notMem_erase j _),
    fold_zero _ f fun k hk => h k (Finset.ne_of_mem_erase hk)]
  exact BitVec.add_zero (f j)

/-- THE REFERENCE'S EXPONENT is the exponent of the field, for the sizes that occur. -/
theorem look_eq {a : EReal} (h : Representable a) : look a = expOf (field (a * ratio)) := by
  unfold look
  generalize hv : a * ratio = v
  have hc := mul_ratio h
  rw [hv] at hc
  have hterm : ∀ k : Fin 254, (IntOp.andi (Ideal.cmp .ole (Ideal.ofBits .f32 0x3F000000#32 * two (cand k)) v)
      (Ideal.cmp .olt v (two (cand k)))) = 1 ↔ pow (k.val + 1) ≤ v ∧ v < two (cand k) := by
    intro k
    rw [half_two]
    unfold Ideal.cmp IntOp.andi
    by_cases h1 : pow (k.val + 1) ≤ v <;> by_cases h2 : v < two (cand k) <;> simp [h1, h2]
  rcases hc with hc | hc
  · rw [hc, field_top]
    refine (fold_zero _ _ fun k _ => if_neg fun hk => ?_).trans rfl
    rw [hc] at hterm
    exact absurd ((hterm k).1 hk).2 (by simp)
  · have hn : field v < 240 := field_lt (by omega) (by omega) hc
    have hk : ∀ k : Fin 254, (pow (k.val + 1) ≤ v ∧ v < two (cand k)) ↔ k.val + 1 = field v := by
      intro k
      rw [le_field v (by omega) (by omega)]
      by_cases hlt : k.val + 2 ≤ 254
      · rw [two_cand k hlt, ← not_le, le_field v (by omega) (by omega)]
        omega
      · constructor
        · intro h; omega
        · intro h; omega
    by_cases h0 : field v = 0
    · rw [h0]
      refine (fold_zero _ _ fun k _ => if_neg fun hk' => ?_).trans rfl
      have := (hk k).1 ((hterm k).1 hk')
      omega
    · have hlt : field v - 1 < 254 := by omega
      rw [fold_single _ ⟨field v - 1, hlt⟩]
      · refine (if_pos ((hterm _).2 ((hk _).2 (by dsimp only; omega)))).trans ?_
        unfold expOf cand
        rw [if_neg (by omega)]
        have : ∀ n : Fin 256, n.val ≠ 0 → IntOp.subi (BitVec.ofNat 32 (n.val - 1)) 125#32 = BitVec.ofNat 32 n.val - 126#32 := by
          decide +kernel
        exact this ⟨field v, by omega⟩ h0
      · intro k hne
        refine if_neg fun hk' => hne (Fin.ext ?_)
        have := (hk k).1 ((hterm k).1 hk')
        show k.val = field v - 1
        omega

/-! ## The scale and its inverse -/

/-- Below the field 240, and at 255: the words the kernel writes have the fields 127 more and 127 less the exponent. -/
theorem words : ∀ n : Fin 256, (n.val < 240 ∨ n.val = 255) →
    ∃ t s : Fin 255, 1 ≤ t.val ∧ 1 ≤ s.val ∧ IntOp.addi 127#32 (expOf n) = BitVec.ofNat 32 t ∧ IntOp.subi 127#32 (expOf n) = BitVec.ofNat 32 s
      ∧ (t.val : Int) - 127 = (expOf n).toInt ∧ (s.val : Int) - 127 = (IntOp.subi 0#32 (expOf n)).toInt := by
  intro n hn
  have key : ∀ n : Fin 256, (n.val < 240 ∨ n.val = 255) →
      let t := if n.val = 0 ∨ n.val = 255 then 127 else n.val + 1
      let s := if n.val = 0 ∨ n.val = 255 then 127 else 253 - n.val
      IntOp.addi 127#32 (expOf n) = BitVec.ofNat 32 t ∧ IntOp.subi 127#32 (expOf n) = BitVec.ofNat 32 s
      ∧ (t : Int) - 127 = (expOf n).toInt ∧ (s : Int) - 127 = (IntOp.subi 0#32 (expOf n)).toInt := by
    unfold expOf
    decide +kernel
  have := key n hn
  exact ⟨⟨if n.val = 0 ∨ n.val = 255 then 127 else n.val + 1, by split <;> omega⟩,
    ⟨if n.val = 0 ∨ n.val = 255 then 127 else 253 - n.val, by split <;> omega⟩,
    by dsimp only; split <;> omega, by dsimp only; split <;> omega, this⟩

/-- The field of a representable magnitude times the ratio is below 240, or it is infinity's. -/
theorem field_range {a : EReal} (h : Representable a) : field (a * ratio) < 240 ∨ field (a * ratio) = 255 := by
  rcases mul_ratio h with h | h
  · right; rw [h, field_top]
  · left; exact field_lt (by omega) (by omega) h

/-- The reference's exponent is that of the field. -/
theorem rexp_eq {a : EReal} (h : Representable a) : rexp a = expOf (field (a * ratio)) := by
  unfold rexp Scalar.select
  by_cases hz : Ideal.cmp .oeq a (Ideal.ofBits .f32 0#32) = 1
  · rw [if_pos hz, field_zero hz]
    rfl
  · rw [if_neg hz, look_eq h]

/-- THE SCALES AGREE. -/
theorem scale_eq {a : EReal} (h : Representable a) : kscale a = rscale a := by
  unfold kscale rscale
  rw [kexp_eq, rexp_eq h, two_eq]
  obtain ⟨t, s, t1, s1, ht, hs, et, es⟩ := words ⟨field (a * ratio), Nat.lt_succ_of_le (field_le _)⟩ (field_range h)
  dsimp only at ht hs et es
  rw [ht, shli23, ofBits_pow t t1 (by omega), pow_coe _ (by omega), et]

/-- THE INVERSES AGREE. -/
theorem inv_eq {a : EReal} (h : Representable a) : kinv a = rinv a := by
  unfold kinv rinv
  rw [kexp_eq, rexp_eq h, two_eq]
  obtain ⟨t, s, t1, s1, ht, hs, et, es⟩ := words ⟨field (a * ratio), Nat.lt_succ_of_le (field_le _)⟩ (field_range h)
  dsimp only at ht hs et es
  rw [hs, shli23, ofBits_pow s s1 (by omega), pow_coe _ (by omega), es]

/-! ## The largest of several magnitudes -/

/-- The bfloat16 word the kernel's maximum starts from is -∞, -/
theorem ofBits_bot16 : Ideal.ofBits .bf16 0xFF80#16 = ⊥ := by
  show Ideal.ieee 8 7 0xFF80#16 = _
  unfold Ideal.ieee
  rw [if_pos (by decide), if_pos (by decide), if_pos (by decide)]

/-- and so is the float32 word the reference's starts from. -/
theorem ofBits_bot32 : Ideal.ofBits .f32 0xFF800000#32 = ⊥ := by
  show Ideal.ieee 8 23 0xFF800000#32 = _
  unfold Ideal.ieee
  rw [if_pos (by decide), if_pos (by decide), if_pos (by decide)]

/-- The largest of representable magnitudes, starting from -∞, is representable. -/
theorem representable_max {n : Nat} (f : Fin n → EReal) (hf : ∀ k, Representable (f k)) :
    Representable (Finset.univ.fold max ⊥ f) := by
  induction (Finset.univ : Finset (Fin n)) using Finset.induction_on with
  | empty => exact Or.inl bot_le
  | insert k s hk ih =>
    rw [Finset.fold_insert hk]
    rcases max_choice (f k) (s.fold max ⊥ f) with h | h <;> rw [h]
    · exact hf k
    · exact ih

end Cert.Scale
-- ==== Proof.Spec.lean ====
/-
  WHAT ONE ROW GIVES, as functions of extended reals: the largest magnitude of a row, the 8-bit code of an entry, and an
  entry of the matrix product scaled back. Both programs' results are stated with these.
-/
module

public import proofs.«01_k».proof.Proof.Scale

@[expose] public section

noncomputable section

namespace Cert.Spec

open Idealize.ShloMosaic

/-- The largest magnitude of a row. -/
def rowMax (f : Fin 5120 → EReal) : EReal := Finset.univ.fold max ⊥ fun k => max (f k) (-(f k))

/-- The code of an entry `x`: `x` times the row's inverse scale, clipped to the 8-bit format's largest number either way. -/
def code (inv x : EReal) : EReal :=
  min (Ideal.ofBits .f32 0x47600000#32) (max (Ideal.ofBits .f32 0xC7600000#32) (x * inv))

/-- An entry of the result: the codes of the row `f` against the row `w` of the weights, summed, times the row's scale,
    times the weight row's scale `s`. -/
def entry (inv scale : EReal) (f w : Fin 5120 → EReal) (s : EReal) : EReal :=
  (∑ k, code inv (f k) * w k) * scale * s

/-- A row of representable entries has a representable largest magnitude. -/
theorem representable_rowMax (f : Fin 5120 → EReal) (h : ∀ k, Scale.Representable (max (f k) (-(f k)))) :
    Scale.Representable (rowMax f) :=
  Scale.representable_max _ h

end Cert.Spec
-- ==== Proof.KernelBlock.lean ====
/-
  WHAT ONE GRID POINT OF THE KERNEL COMPUTES, over extended reals, from its three blocks: 256 rows of the activations
  `x0`, the whole weight matrix `x1` and the row of weight scales `x2`.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelBlock

open Cert.KernelIdeal Cert.KernelIdeal.Gen Idealize.ShloMosaic Idealize.ShloMosaic.TcCoe

/-- Row `r` of a block of activations. -/
abbrev row (x : Vec Ideal S256x5120 .bf16) (r : Fin 256) : Fin 5120 → EReal := fun k => x (ix2 r k)

/-- The block's column of largest magnitudes. -/
theorem rowMax_apply (x : Vec Ideal S256x5120 .bf16) (i : S256x1.Idx) : k0_pay5 (F := Ideal) x i = Spec.rowMax (row x (i 0)) := by
  pointwise [k0_pay5, k0_pay4]
  rw [Scale.ofBits_bot16]
  rfl

/-- One step of the search on a column. -/
def vstep (v : FVec Ideal S256x1 .f32) (b : BitVec 32) (n : IVec S256x1 32) : IVec S256x1 32 :=
  select (cmpf .oge v (bitcastToFloat .f32 (shli (addi n (broadcast S256x1 b)) (broadcast S256x1 23#32))))
    (addi n (broadcast S256x1 b)) n

/-- It is the step on every row. -/
theorem vstep_apply (v : FVec Ideal S256x1 .f32) (b : BitVec 32) (n : IVec S256x1 32) (i : S256x1.Idx) :
    vstep v b n i = Scale.step (v i) b (n i) := rfl

/-- The first three steps of the search. -/
theorem search_head (x : Vec Ideal S256x5120 .bf16) :
    k0_pay7 (F := Ideal) x = vstep (k0_pay6 x) 32#32 (vstep (k0_pay6 x) 64#32 (vstep (k0_pay6 x) 128#32 (broadcast S256x1 0#32))) := by
  unfold k0_pay7 vstep
  with_reducible rfl

/-- The whole search: its eight steps, the highest bit first. -/
theorem search_steps (x : Vec Ideal S256x5120 .bf16) :
    k0_pay9 (F := Ideal) (k0_pay6 x) (k0_pay7 x) (k0_pay8 x) 16#32
      = vstep (k0_pay6 x) 1#32 (vstep (k0_pay6 x) 2#32 (vstep (k0_pay6 x) 4#32 (vstep (k0_pay6 x) 8#32 (vstep (k0_pay6 x) 16#32
        (k0_pay7 x))))) := by
  unfold k0_pay9 k0_pay8 vstep
  with_reducible rfl

/-- A column times one number written as a float32 word. -/
theorem times_apply (a : FVec Ideal S256x1 .f32) (b : BitVec 32) (i : S256x1.Idx) :
    mulf a (broadcast S256x1 (Scalar.ofBits (F := Ideal) .f32 b)) i = a i * Ideal.ofBits .f32 b := rfl

/-- The kernel's field of every row: the search on the row's largest magnitude times the ratio. -/
theorem search_apply (x : Vec Ideal S256x5120 .bf16) (i : S256x1.Idx) :
    k0_pay9 (F := Ideal) (k0_pay6 x) (k0_pay7 x) (k0_pay8 x) 16#32 i = Scale.search (k0_pay5 x i * Scale.ratio) := by
  have hv : k0_pay6 (F := Ideal) x i = k0_pay5 x i * Scale.ratio := by
    unfold k0_pay6 Scale.ratio
    exact times_apply (k0_pay5 x) _ i
  have h0 : broadcast S256x1 0#32 i = 0#32 := rfl
  unfold Scale.search
  rw [search_steps, search_head]
  iterate 8 rw [vstep_apply]
  rw [hv, h0]

/-- The exponent of a row, from its largest magnitude and its field. -/
theorem exponent_apply (a : FVec Ideal S256x1 .f32) (n : IVec S256x1 32) (i : S256x1.Idx) :
    k0_pay12 (F := Ideal) a n (ori (cmpi .eq n (broadcast S256x1 0#32)) (cmpi .eq n (broadcast S256x1 255#32))) k0_pay11 i
      = Scalar.select (IntOp.ori (IntOp.ori (IntOp.cmpi .eq (n i) 0#32) (IntOp.cmpi .eq (n i) 255#32))
        (Ideal.cmp .oeq (a i) (Ideal.ofBits .f32 0#32))) 0#32 (IntOp.subi (n i) 126#32) := by
  unfold k0_pay12 k0_pay11
  rfl

/-- The fields 0 and 255 the kernel sets apart. -/
theorem special_eq (v : FVec Ideal S256x1 .f32) (n : IVec S256x1 32) (c : IVec S256x1 1) (b : BitVec 32) :
    k0_pay10 (F := Ideal) v n c b = ori (cmpi .eq (k0_pay9 v n c b) (broadcast S256x1 0#32)) (cmpi .eq (k0_pay9 v n c b) (broadcast S256x1 255#32)) := by
  unfold k0_pay10
  with_reducible rfl

/-- The kernel's exponents of a block. -/
abbrev exponents (x : Vec Ideal S256x5120 .bf16) : IVec S256x1 32 :=
  k0_pay12 (F := Ideal) (k0_pay5 x) (k0_pay9 (k0_pay6 x) (k0_pay7 x) (k0_pay8 x) 16#32)
    (k0_pay10 (k0_pay6 x) (k0_pay7 x) (k0_pay8 x) 16#32) k0_pay11

/-- Each is the exponent of the row's largest magnitude. -/
theorem kexp_apply (x : Vec Ideal S256x5120 .bf16) (i : S256x1.Idx) :
    exponents x i = Scale.kexp (Spec.rowMax (row x (i 0))) := by
  unfold exponents Scale.kexp
  rw [special_eq, exponent_apply, search_apply, rowMax_apply]

/-- The scales the kernel stores for a block, -/
abbrev scales (x : Vec Ideal S256x5120 .bf16) : FVec Ideal S256x1 .f32 :=
  k0_pay13 (F := Ideal) (k0_pay5 x) (k0_pay9 (k0_pay6 x) (k0_pay7 x) (k0_pay8 x) 16#32)
    (k0_pay10 (k0_pay6 x) (k0_pay7 x) (k0_pay8 x) 16#32) k0_pay11

/-- row by row. -/
theorem scales_apply (x : Vec Ideal S256x5120 .bf16) (i : S256x1.Idx) :
    scales x i = Scale.kscale (Spec.rowMax (row x (i 0))) := by
  have h : scales x = bitcastToFloat .f32 (shli (addi (broadcast S256x1 127#32) (exponents x)) (broadcast S256x1 23#32)) := by
    unfold scales exponents k0_pay13
    with_reducible rfl
  unfold Scale.kscale
  rw [h, ← kexp_apply]
  generalize exponents x = e
  rfl

/-- The codes the kernel stores for a block, -/
abbrev codes (x : Vec Ideal S256x5120 .bf16) : FVec Ideal S256x5120 .fp8e5m2 :=
  k0_pay14 (F := Ideal) (k0_pay4 x) (k0_pay5 x) (k0_pay9 (k0_pay6 x) (k0_pay7 x) (k0_pay8 x) 16#32)
    (k0_pay10 (k0_pay6 x) (k0_pay7 x) (k0_pay8 x) 16#32) k0_pay11

/-- entry by entry. -/
theorem codes_apply (x : Vec Ideal S256x5120 .bf16) (i : S256x5120.Idx) :
    codes x i = Spec.code (Scale.kinv (Spec.rowMax (row x (i 0)))) (x i) := by
  have h : ∀ j : S256x1.Idx, bitcastToFloat (F := Ideal) .f32 (shli (subi (broadcast S256x1 127#32) (exponents x)) (broadcast S256x1 23#32)) j
      = Scale.kinv (Spec.rowMax (row x (j 0))) := by
    intro j
    unfold Scale.kinv
    rw [← kexp_apply]
    generalize exponents x = e
    rfl
  unfold codes k0_pay14
  generalize bitcastToFloat (F := Ideal) .f32 (shli (subi (broadcast S256x1 127#32) (exponents x)) (broadcast S256x1 23#32)) = s at h ⊢
  pointwise [k0_pay4, h]
  rfl

end Cert.KernelBlock
-- ==== Proof.KernelTiles.lean ====
/-
  THE KERNEL'S RESULT BLOCK, over extended reals: the ten tiles of 512 columns one grid point stores, entry by entry.
-/
module

public import proofs.«01_k».proof.Proof.KernelBlock

@[expose] public section

set_option maxRecDepth 16384

noncomputable section

namespace Cert.KernelBlock

open Cert.KernelIdeal Cert.KernelIdeal.Gen Idealize.ShloMosaic Idealize.ShloMosaic.TcCoe

/-- A tile of the result: the codes against 512 rows of the weights, times the scales, times the weights' scales. -/
abbrev tile (s : FVec Ideal S256x1 .f32) (q : FVec Ideal S256x5120 .fp8e5m2) (w : Vec Ideal S512x5120 .fp8e4m3)
    (ws : Vec Ideal S1x512 .f32) : FVec Ideal S256x512 .bf16 := k0_pay2 (F := Ideal) s q w ws

/-- An entry of it: the row of codes against the row of weights, times the two scales. -/
theorem tile_apply (s : FVec Ideal S256x1 .f32) (q : FVec Ideal S256x5120 .fp8e5m2) (w : Vec Ideal S512x5120 .fp8e4m3)
    (ws : Vec Ideal S1x512 .f32) (i : S256x512.Idx) :
    tile s q w ws i = (∑ k : Fin 5120, q (ix2 (i 0) k) * w (ix2 (i 1) k)) * s (ix2 (i 0) 0) * ws (ix2 0 (i 1)) := by
  pointwise [tile, k0_pay2]

/-- Every tile the kernel computes is that term of its chunk of the weights. -/
theorem tiles_eq (s : FVec Ideal S256x1 .f32) (q : FVec Ideal S256x5120 .fp8e5m2) (w : Vec Ideal S512x5120 .fp8e4m3) (ws : Vec Ideal S1x512 .f32) :
    k0_pay3 (F := Ideal) s q w ws = tile s q w ws ∧ k0_pay1 (F := Ideal) (k0_pay24 s q w) (k0_pay25 ws) = tile s q w ws
    ∧ k0_pay23 (F := Ideal) s q w ws = tile s q w ws ∧ k0_pay22 (F := Ideal) s q w ws = tile s q w ws
    ∧ k0_pay21 (F := Ideal) (k0_pay19 q w) (k0_pay20 s) ws = tile s q w ws ∧ k0_pay18 (F := Ideal) s q w ws = tile s q w ws
    ∧ k0_pay17 (F := Ideal) s q w ws = tile s q w ws ∧ k0_pay16 (F := Ideal) s q w ws = tile s q w ws := by
  unfold tile k0_pay3 k0_pay1 k0_pay24 k0_pay25 k0_pay23 k0_pay22 k0_pay21 k0_pay20 k0_pay19 k0_pay18 k0_pay17 k0_pay16 k0_pay2
  refine ⟨?_, ?_, ?_, ?_, ?_, ?_, ?_, ?_⟩ <;> with_reducible rfl

/-- So is the first tile, whose scales and codes the kernel computes in the same breath. -/
theorem tile_first (v1 : FVec Ideal S256x5120 .bf16) (a : FVec Ideal S256x1 .f32) (n : IVec S256x1 32) (z : IVec S256x1 1) (o : FVec Ideal S256x1 .f32)
    (w : Vec Ideal S512x5120 .fp8e4m3) (ws : Vec Ideal S1x512 .f32) :
    k0_pay15 (F := Ideal) v1 a n z o w ws = tile (k0_pay13 a n z o) (k0_pay14 v1 a n z o) w ws := by
  unfold tile k0_pay15 k0_pay2
  with_reducible rfl

/-- The ten tiles the kernel stores are that tile of ten chunks of the weights. -/
theorem out_tiles (x0 : Vec Ideal S256x5120 .bf16) (x1 : Vec Ideal S5120x5120 .fp8e4m3) (x2 : Vec Ideal S1x5120 .f32) :
    out0_3 x0 x1 x2 = View.canon [⟨r0_31, tile (scales (View.ld x0 r0_0)) (codes (View.ld x0 r0_0)) (View.ld x1 r0_29) (View.ld x2 r0_30)⟩,
      ⟨r0_28, tile (scales (View.ld x0 r0_0)) (codes (View.ld x0 r0_0)) (View.ld x1 r0_26) (View.ld x2 r0_27)⟩,
      ⟨r0_25, tile (scales (View.ld x0 r0_0)) (codes (View.ld x0 r0_0)) (View.ld x1 r0_23) (View.ld x2 r0_24)⟩,
      ⟨r0_22, tile (scales (View.ld x0 r0_0)) (codes (View.ld x0 r0_0)) (View.ld x1 r0_20) (View.ld x2 r0_21)⟩,
      ⟨r0_19, tile (scales (View.ld x0 r0_0)) (codes (View.ld x0 r0_0)) (View.ld x1 r0_17) (View.ld x2 r0_18)⟩,
      ⟨r0_16, tile (scales (View.ld x0 r0_0)) (codes (View.ld x0 r0_0)) (View.ld x1 r0_14) (View.ld x2 r0_15)⟩,
      ⟨r0_13, tile (scales (View.ld x0 r0_0)) (codes (View.ld x0 r0_0)) (View.ld x1 r0_11) (View.ld x2 r0_12)⟩,
      ⟨r0_10, tile (scales (View.ld x0 r0_0)) (codes (View.ld x0 r0_0)) (View.ld x1 r0_8) (View.ld x2 r0_9)⟩,
      ⟨r0_7, tile (scales (View.ld x0 r0_0)) (codes (View.ld x0 r0_0)) (View.ld x1 r0_5) (View.ld x2 r0_6)⟩,
      ⟨r0_4, tile (scales (View.ld x0 r0_0)) (codes (View.ld x0 r0_0)) (View.ld x1 r0_2) (View.ld x2 r0_3)⟩] := by
  have hs : k0_pay34 x0 x1 x2 = scales (View.ld x0 r0_0) := by
    unfold k0_pay34 k0_pay33 k0_pay32 k0_pay31 k0_pay30 k0_pay29 k0_pay28 k0_pay27
    with_reducible rfl
  have hq : k0_pay35 x0 x1 x2 = codes (View.ld x0 r0_0) := by
    unfold k0_pay35 k0_pay33 k0_pay32 k0_pay31 k0_pay30 k0_pay29 k0_pay28 k0_pay27 k0_pay26
    with_reducible rfl
  have h1 : k0_pay15 (k0_pay26 x0 x1 x2) (k0_pay27 x0 x1 x2) (k0_pay31 x0 x1 x2) (k0_pay32 x0 x1 x2) (k0_pay33 x0 x1 x2)
      (View.ld x1 r0_2) (View.ld x2 r0_3) = tile (scales (View.ld x0 r0_0)) (codes (View.ld x0 r0_0)) (View.ld x1 r0_2) (View.ld x2 r0_3) := by
    rw [tile_first, ← hs, ← hq]
    unfold k0_pay34 k0_pay35
    with_reducible rfl
  unfold out0_3
  rw [hs, hq, h1]
  simp only [tiles_eq]

/-- An entry of one tile, when its chunk of the weights and of their scales is read where the block's column `y 1` says. -/
theorem tile_entry (x0 : Vec Ideal S256x5120 .bf16) (x1 : Vec Ideal S5120x5120 .fp8e4m3) (x2 : Vec Ideal S1x5120 .f32)
    (w : Vec Ideal S512x5120 .fp8e4m3) (ws : Vec Ideal S1x512 .f32) (x : S256x512.Idx) (y : S256x5120.Idx) (h0 : (y 0 : Nat) = x 0)
    (hw : ∀ k : Fin 5120, w (ix2 (x 1) k) = x1 (ix2 (y 1) k)) (hs : ws (ix2 0 (x 1)) = x2 (ix2 0 (y 1))) :
    tile (scales x0) (codes x0) w ws x
      = Spec.entry (Scale.kinv (Spec.rowMax (row x0 (y 0)))) (Scale.kscale (Spec.rowMax (row x0 (y 0)))) (row x0 (y 0))
        (fun k => x1 (ix2 (y 1) k)) (x2 (ix2 0 (y 1))) := by
  have hx : x 0 = y 0 := Fin.ext h0.symm
  rw [tile_apply, hs, scales_apply]
  simp only [hw, codes_apply]
  unfold Spec.entry
  rw [← hx]
  rfl

/-- AN ENTRY OF THE KERNEL'S RESULT BLOCK: the row's codes against the column's row of the weights, scaled back. -/
theorem out_apply (x0 : Vec Ideal S256x5120 .bf16) (x1 : Vec Ideal S5120x5120 .fp8e4m3) (x2 : Vec Ideal S1x5120 .f32) (y : S256x5120.Idx) :
    out0_3 x0 x1 x2 y = Spec.entry (Scale.kinv (Spec.rowMax (row x0 (y 0)))) (Scale.kscale (Spec.rowMax (row x0 (y 0)))) (row x0 (y 0))
      (fun k => x1 (ix2 (y 1) k)) (x2 (ix2 0 (y 1))) := by
  have hz : (![0, 0] : Fin 2 → Nat) = fun _ => 0 := funext fun a => by fin_cases a <;> rfl
  have h0 : View.ld x0 r0_0 = x0 := View.ld_unit_zero hz _ _
  rw [out_tiles, h0]
  canon_tiles x h
  all_goals
    refine tile_entry x0 x1 x2 _ _ x y h0 (fun k => ?_) ?_ <;> (pointwise; blk_ext)

/-- AN ENTRY OF THE KERNEL'S BLOCK OF CODES. -/
theorem out_codes_apply (x0 : Vec Ideal S256x5120 .bf16) (x1 : Vec Ideal S5120x5120 .fp8e4m3) (x2 : Vec Ideal S1x5120 .f32) (y : S256x5120.Idx) :
    out0_4 x0 x1 x2 y = Spec.code (Scale.kinv (Spec.rowMax (row x0 (y 0)))) (x0 y) := by
  have hz : (![0, 0] : Fin 2 → Nat) = fun _ => 0 := funext fun a => by fin_cases a <;> rfl
  have h0 : View.ld x0 r0_0 = x0 := View.ld_unit_zero hz _ _
  have h : out0_4 x0 x1 x2 = codes x0 := by
    unfold out0_4 k0_pay33 k0_pay32 k0_pay31 k0_pay30 k0_pay29 k0_pay28 k0_pay27 k0_pay26
    rw [View.canon_unit_zero hz, h0]
  rw [h, codes_apply]

/-- AN ENTRY OF THE KERNEL'S BLOCK OF SCALES. -/
theorem out_scales_apply (x0 : Vec Ideal S256x5120 .bf16) (x1 : Vec Ideal S5120x5120 .fp8e4m3) (x2 : Vec Ideal S1x5120 .f32) (y : S256x1.Idx) :
    out0_5 x0 x1 x2 y = Scale.kscale (Spec.rowMax (row x0 (y 0))) := by
  have hz : (![0, 0] : Fin 2 → Nat) = fun _ => 0 := funext fun a => by fin_cases a <;> rfl
  have h0 : View.ld x0 r0_0 = x0 := View.ld_unit_zero hz _ _
  have h : out0_5 x0 x1 x2 = scales x0 := by
    unfold out0_5 k0_pay33 k0_pay32 k0_pay31 k0_pay30 k0_pay29 k0_pay28 k0_pay27
    rw [View.canon_unit_zero hz, h0]
  rw [h, scales_apply]

end Cert.KernelBlock
-- ==== Proof.KernelArrays.lean ====
/-
  THE THREE ARRAYS THE KERNEL LEAVES, over extended reals, as terms over its three arguments: every one of the grid's
  twelve points writes its own 256 rows of each.
-/
module

public import proofs.«01_k».proof.Proof.KernelTiles

@[expose] public section

set_option maxRecDepth 16384

noncomputable section

namespace Cert.KernelArrays

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Row `i` of the activations. -/
abbrev arow (X : FVec Ideal S1x3072x5120 .bf16) (i : Fin 3072) : Fin 5120 → EReal := fun k => X (ix3 0 i k)

/-- The products the kernel leaves. -/
def products (X : FVec Ideal S1x3072x5120 .bf16) (W : FVec Ideal S5120x5120 .fp8e4m3) (S : FVec Ideal S5120 .f32) : FVec Ideal S3072x5120 .bf16 :=
  fun j => Spec.entry (Scale.kinv (Spec.rowMax (arow X (j 0)))) (Scale.kscale (Spec.rowMax (arow X (j 0)))) (arow X (j 0))
    (fun k => W (ix2 (j 1) k)) (S (ix1 (j 1)))

/-- The 8-bit codes the kernel leaves. -/
def codes (X : FVec Ideal S1x3072x5120 .bf16) : FVec Ideal S3072x5120 .fp8e5m2 :=
  fun j => Spec.code (Scale.kinv (Spec.rowMax (arow X (j 0)))) (X (ix3 0 (j 0) (j 1)))

/-- The scales the kernel leaves. -/
def scales (X : FVec Ideal S1x3072x5120 .bf16) : FVec Ideal S3072x1 .f32 :=
  fun j => Scale.kscale (Spec.rowMax (arow X (j 0)))

/-- Where the windows sit at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The activations the host hands to the kernel: the argument, its leading axis dropped. -/
theorem host_x (c : Dev nD) (i : S3072x5120.Idx) : V m c main_v0 i = m ((c : Thread nD τ).loc main_arg0) (ix3 0 (i 0) (i 1)) := by
  entry_read
  pointwise
  blk_ext

/-- The weight scales the host hands to the kernel: the argument as one row. -/
theorem host_s (c : Dev nD) (i : S1x5120.Idx) : V m c main_v1 i = m ((c : Thread nD τ).loc main_arg2) (ix1 (i 1)) := by
  entry_read
  pointwise
  blk_ext

/-- The point's block of the activations. -/
def xblk (c : Dev nD) (t : Fin cfg0.N) : Vec Ideal S256x5120 .bf16 := iblk m c 0 t
/-- The point's block of the weights. -/
def wblk (c : Dev nD) (t : Fin cfg0.N) : Vec Ideal S5120x5120 .fp8e4m3 := iblk m c 1 t
/-- The point's block of the weight scales. -/
def sblk (c : Dev nD) (t : Fin cfg0.N) : Vec Ideal S1x5120 .f32 := iblk m c 2 t

/-- The block of activations is read where the point's rows lie in the argument, -/
theorem xblk_apply (c : Dev nD) (t : Fin cfg0.N) (y : S256x5120.Idx) (i : Fin 3072) (h : (i : ℕ) = t.val * 256 + (y 0).val) :
    xblk m c t y = m ((c : Thread nD τ).loc main_arg0) (ix3 0 i (y 1)) := by
  refine Eq.trans ?_ (host_x m c (ix2 i (y 1)))
  unfold xblk
  blk_ext [iblk, idx t]

/-- the weights are read whole, -/
theorem wblk_apply (c : Dev nD) (t : Fin cfg0.N) (y : S5120x5120.Idx) :
    wblk m c t y = m ((c : Thread nD τ).loc main_arg1) y := by
  unfold wblk
  blk_ext [iblk, V, idx t]

/-- and so are their scales. -/
theorem sblk_apply (c : Dev nD) (t : Fin cfg0.N) (y : S1x5120.Idx) :
    sblk m c t y = m ((c : Thread nD τ).loc main_arg2) (ix1 (y 1)) := by
  refine Eq.trans ?_ (host_s m c y)
  unfold sblk
  blk_ext [iblk, idx t]

/-- A row of the block is a row of the argument. -/
theorem row_block (c : Dev nD) (t : Fin cfg0.N) (r : Fin 256) (i : Fin 3072) (h : (i : ℕ) = t.val * 256 + r.val) :
    KernelBlock.row (xblk m c t) r = arow (m ((c : Thread nD τ).loc main_arg0)) i :=
  funext fun k => xblk_apply m c t (ix2 r k) i h

/-- A scale of a point's block, at its row of the whole column. -/
theorem point_scales (c : Dev nD) (t : Fin cfg0.N) (y : S256x1.Idx) (j : S3072x1.Idx) (h : (j 0 : ℕ) = t.val * 256 + (y 0).val) :
    out0_5 (xblk m c t) (wblk m c t) (sblk m c t) y = scales (m ((c : Thread nD τ).loc main_arg0)) j := by
  rw [KernelBlock.out_scales_apply, row_block m c t (y 0) (j 0) h]
  rfl

/-- A code of a point's block, at its place in the whole array. -/
theorem point_codes (c : Dev nD) (t : Fin cfg0.N) (y : S256x5120.Idx) (j : S3072x5120.Idx) (h : (j 0 : ℕ) = t.val * 256 + (y 0).val)
    (h1 : j 1 = y 1) :
    out0_4 (xblk m c t) (wblk m c t) (sblk m c t) y = codes (m ((c : Thread nD τ).loc main_arg0)) j := by
  rw [KernelBlock.out_codes_apply, row_block m c t (y 0) (j 0) h, xblk_apply m c t y (j 0) h]
  unfold codes
  rw [h1]

/-- An entry of a point's block of products, at its place in the whole array. -/
theorem point_products (c : Dev nD) (t : Fin cfg0.N) (y : S256x5120.Idx) (j : S3072x5120.Idx) (h : (j 0 : ℕ) = t.val * 256 + (y 0).val)
    (h1 : j 1 = y 1) :
    out0_3 (xblk m c t) (wblk m c t) (sblk m c t) y
      = products (m ((c : Thread nD τ).loc main_arg0)) (m ((c : Thread nD τ).loc main_arg1)) (m ((c : Thread nD τ).loc main_arg2)) j := by
  rw [KernelBlock.out_apply, row_block m c t (y 0) (j 0) h]
  simp only [wblk_apply, sblk_apply]
  unfold products
  rw [h1]
  rfl

/-- The scales after the run. -/
theorem final_scales (c : Dev nD) : (dats m 0 c).arrAt 5 (cfgs 0).N = scales (m ((c : Thread nD τ).loc main_arg0)) := by
  refine (dats m 0 c).arrAt_eq_of_covers 5 (scales (m ((c : Thread nD τ).loc main_arg0))) (by decide +kernel) fun t hf y => ?_
  blk_simp
  rw [after0_5]
  refine point_scales m c t y _ ?_
  blk_simp [idx t]

/-- The codes after the run. -/
theorem final_codes (c : Dev nD) : (dats m 0 c).arrAt 4 (cfgs 0).N = codes (m ((c : Thread nD τ).loc main_arg0)) := by
  refine (dats m 0 c).arrAt_eq_of_covers 4 (codes (m ((c : Thread nD τ).loc main_arg0))) (by decide +kernel) fun t hf y => ?_
  blk_simp
  rw [after0_4]
  refine point_codes m c t y _ ?_ (Fin.ext ?_) <;> blk_simp [idx t]

/-- The products after the run. -/
theorem final_products (c : Dev nD) : (dats m 0 c).arrAt 3 (cfgs 0).N
    = products (m ((c : Thread nD τ).loc main_arg0)) (m ((c : Thread nD τ).loc main_arg1)) (m ((c : Thread nD τ).loc main_arg2)) := by
  refine (dats m 0 c).arrAt_eq_of_covers 3
    (products (m ((c : Thread nD τ).loc main_arg0)) (m ((c : Thread nD τ).loc main_arg1)) (m ((c : Thread nD τ).loc main_arg2)))
    (by decide +kernel) fun t hf y => ?_
  blk_simp
  rw [after0_3]
  refine point_products m c t y _ ?_ (Fin.ext ?_) <;> blk_simp [idx t]

end Cert.KernelArrays
-- ==== Proof.RefBlock.lean ====
/-
  WHAT THE REFERENCE COMPUTES, over extended reals, from the activations `x`, the weights `w` and the row of weight
  scales `s`, all of them whole.
-/
module

public import proofs.«01_k».proof.Proof.Spec
public import proofs.«01_k».proof.Proof.Gen.ReferenceIdeal.Frame
public import Idealize.ShloMosaic.Lib.Pipeline.ValueKit
public import Idealize.ShloMosaic.Lib.Pointwise

@[expose] public section

set_option maxRecDepth 16384

noncomputable section

namespace Cert.RefBlock

open Cert.ReferenceIdeal Cert.ReferenceIdeal.Gen Idealize.ShloMosaic Idealize.ShloMosaic.TcCoe

/-- Row `r` of the activations. -/
abbrev row (x : Vec Ideal S3072x5120 .bf16) (r : Fin 3072) : Fin 5120 → EReal := fun k => x (ix2 r k)

/-- The column of the rows' largest magnitudes. -/
def top (x : Vec Ideal S3072x5120 .bf16) : FVec Ideal S3072x1 .f32 :=
  shapeCast S3072x1 (multiReduction .maximumf [1] S3072 (absf (k0_pay2 x)) 0xFF800000#32 reduces_S3072x5120_S3072 (.inl rfl) rfl)
    shapeCasts_S3072_S3072x1

/-- Its entries. -/
theorem top_apply (x : Vec Ideal S3072x5120 .bf16) (i : S3072x1.Idx) : top x i = Spec.rowMax (row x (i 0)) := by
  pointwise [top, k0_pay2]
  rw [Scale.ofBits_bot32]
  rfl

/-- The candidate exponents. -/
def cands : IVec S1x254 32 := subi (iota .tc S1x254 32 [1] iota_S1x254_d1_w32) (broadcast S1x254 125#32)

/-- The candidates run from -125 up. -/
theorem cands_apply (i : S1x254.Idx) : cands i = Scale.cand (i 1) := by
  unfold Scale.cand
  pointwise [cands]

/-- The exponents of a column `v`: for every row the sum of the candidates `k` with `h * 2^k ≤ v < 2^k`. -/
def lookup (v : FVec Ideal S3072x1 .f32) (h : BitVec 32) (c : IVec S1x254 32) : IVec S3072x1 32 :=
  shapeCast S3072x1 (multiReductionI .add [1] S3072 (select
    (andi (cmpf .ole (broadcastTo S3072x254 (mulf (broadcast S1x254 (Scalar.ofBits (F := Ideal) .f32 h)) (exp2 (sitofp .f32 c))) broadcasts_S1x254_S3072x254)
        (broadcastTo S3072x254 v broadcasts_S3072x1_S3072x254))
      (cmpf .olt (broadcastTo S3072x254 v broadcasts_S3072x1_S3072x254) (broadcastTo S3072x254 (exp2 (sitofp .f32 c)) broadcasts_S1x254_S3072x254)))
    (broadcastTo S3072x254 (shapeCast S1x254 c shapeCasts_S1x254_S1x254) broadcasts_S1x254_S3072x254)
    (broadcast S3072x254 0#32)) 0#32 reduces_S3072x254_S3072 rfl) shapeCasts_S3072_S3072x1

/-- The sum at one row. -/
theorem lookup_apply (v : FVec Ideal S3072x1 .f32) (h : BitVec 32) (c : IVec S1x254 32) (i : S3072x1.Idx) :
    lookup v h c i = Finset.univ.fold IntOp.addi 0#32 fun k : Fin 254 =>
      Scalar.select (IntOp.andi (Ideal.cmp .ole (Ideal.ofBits .f32 h * Scale.two (c (ix2 0 k))) (v (ix2 (i 0) 0)))
        (Ideal.cmp .olt (v (ix2 (i 0) 0)) (Scale.two (c (ix2 0 k))))) (c (ix2 0 k)) 0#32 := by
  pointwise [lookup]
  rfl

/-- A column times one number written as a float32 word. -/
theorem times_apply (a : FVec Ideal S3072x1 .f32) (b : BitVec 32) (i : S3072x1.Idx) :
    mulf a (broadcast S3072x1 (Scalar.ofBits (F := Ideal) .f32 b)) i = a i * Ideal.ofBits .f32 b := rfl

/-- 0 where a column is the number `b` writes, else the entry of `e`. -/
theorem unless_apply (a : FVec Ideal S3072x1 .f32) (b : BitVec 32) (e : IVec S3072x1 32) (i : S3072x1.Idx) :
    select (cmpf .oeq a (broadcast S3072x1 (Scalar.ofBits (F := Ideal) .f32 b))) (broadcast S3072x1 0#32) e i
      = Scalar.select (Ideal.cmp .oeq (a i) (Ideal.ofBits .f32 b)) 0#32 (e i) := rfl

/-- The reference's exponents. -/
theorem exponents_eq (x : Vec Ideal S3072x5120 .bf16) :
    k0_pay3 (F := Ideal) x = select (cmpf .oeq (top x) (broadcast S3072x1 (Scalar.ofBits (F := Ideal) .f32 0x00000000#32))) (broadcast S3072x1 0#32)
      (lookup (mulf (top x) (broadcast S3072x1 (Scalar.ofBits (F := Ideal) .f32 0x37924925#32))) 0x3F000000#32 cands) := by
  unfold k0_pay3 lookup top cands
  with_reducible rfl

/-- Each is looked up from its row's largest magnitude. -/
theorem exponents_apply (x : Vec Ideal S3072x5120 .bf16) (i : S3072x1.Idx) :
    k0_pay3 (F := Ideal) x i = Scale.rexp (Spec.rowMax (row x (i 0))) := by
  have hv : mulf (top x) (broadcast S3072x1 (Scalar.ofBits (F := Ideal) .f32 0x37924925#32)) (ix2 (i 0) 0)
      = Spec.rowMax (row x (i 0)) * Scale.ratio := by
    unfold Scale.ratio
    rw [times_apply, top_apply]
    rfl
  have hc : ∀ k : Fin 254, cands (ix2 0 k) = Scale.cand k := fun k => cands_apply (ix2 0 k)
  unfold Scale.rexp Scale.look
  rw [exponents_eq, unless_apply, top_apply, lookup_apply, hv]
  simp only [hc]

/-- THE REFERENCE'S SCALES. -/
theorem scales_apply (x : Vec Ideal S3072x5120 .bf16) (i : S3072x1.Idx) :
    k0_pay4 (F := Ideal) x i = Scale.rscale (Spec.rowMax (row x (i 0))) := by
  unfold Scale.rscale
  rw [← exponents_apply]
  unfold k0_pay4
  generalize k0_pay3 (F := Ideal) x = e
  rfl

/-- THE REFERENCE'S CODES. -/
theorem codes_apply (x : Vec Ideal S3072x5120 .bf16) (i : S3072x5120.Idx) :
    k0_pay5 (F := Ideal) x i = Spec.code (Scale.rinv (Spec.rowMax (row x (i 0)))) (x i) := by
  have h : ∀ j : S3072x1.Idx, exp2 (sitofp (F := Ideal) .f32 (subi (broadcast S3072x1 0#32) (k0_pay3 (F := Ideal) x))) j
      = Scale.rinv (Spec.rowMax (row x (j 0))) := by
    intro j
    unfold Scale.rinv
    rw [← exponents_apply]
    generalize k0_pay3 (F := Ideal) x = e
    rfl
  unfold k0_pay5
  generalize exp2 (sitofp (F := Ideal) .f32 (subi (broadcast S3072x1 0#32) (k0_pay3 (F := Ideal) x))) = s at h ⊢
  pointwise [k0_pay2, h]
  rfl

/-- THE REFERENCE'S PRODUCTS. -/
theorem products_apply (x : Vec Ideal S3072x5120 .bf16) (w : Vec Ideal S5120x5120 .fp8e4m3) (s : Vec Ideal S1x5120 .f32) (i : S3072x5120.Idx) :
    k0_pay1 (F := Ideal) (k0_pay4 x) (k0_pay5 x) w s i
      = Spec.entry (Scale.rinv (Spec.rowMax (row x (i 0)))) (Scale.rscale (Spec.rowMax (row x (i 0)))) (row x (i 0))
        (fun k => w (ix2 (i 1) k)) (s (ix2 0 (i 1))) := by
  have hq : ∀ k : Fin 5120, k0_pay5 (F := Ideal) x (ix2 (i 0) k) = Spec.code (Scale.rinv (Spec.rowMax (row x (i 0)))) (row x (i 0) k) :=
    fun k => codes_apply x (ix2 (i 0) k)
  have hs : k0_pay4 (F := Ideal) x (ix2 (i 0) 0) = Scale.rscale (Spec.rowMax (row x (i 0))) := scales_apply x (ix2 (i 0) 0)
  unfold Spec.entry
  simp only [← hq, ← hs]
  unfold k0_pay1
  generalize k0_pay5 (F := Ideal) x = q
  generalize k0_pay4 (F := Ideal) x = a
  pointwise

end Cert.RefBlock
-- ==== Proof.RefArrays.lean ====
/-
  THE THREE ARRAYS THE REFERENCE LEAVES, over extended reals, as terms over its three arguments, and its run: the
  reference is one grid point whose blocks are the whole arrays.
-/
module

public import proofs.«01_k».proof.Proof.RefBlock

@[expose] public section

set_option maxRecDepth 16384

noncomputable section

namespace Cert.RefArrays

open Cert.ReferenceIdeal Cert.ReferenceIdeal.Gen Idealize.ShloMosaic Idealize.ShloMosaic.TcCoe Idealize.SL.Sem
open Idealize.ShloMosaic.Pipeline (Dat)

section Run

variable {F : FTy → Type} [FloatOps F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v2_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_2) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N` —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      kept_main_arg0 m r h c,
      kept_main_arg1 m r h c,
      kept_main_arg2 m r h c⟩)
    (run_main m ρ)

end Run

variable (m : (ℓ : Loc nD τ sig) → Buf (Elt Ideal) ℓ)

/-- Row `i` of the activations. -/
abbrev arow (X : FVec Ideal S1x3072x5120 .bf16) (i : Fin 3072) : Fin 5120 → EReal := fun k => X (ix3 0 i k)

/-- The products the reference leaves. -/
def products (X : FVec Ideal S1x3072x5120 .bf16) (W : FVec Ideal S5120x5120 .fp8e4m3) (S : FVec Ideal S5120 .f32) : FVec Ideal S3072x5120 .bf16 :=
  fun j => Spec.entry (Scale.rinv (Spec.rowMax (arow X (j 0)))) (Scale.rscale (Spec.rowMax (arow X (j 0)))) (arow X (j 0))
    (fun k => W (ix2 (j 1) k)) (S (ix1 (j 1)))

/-- The 8-bit codes the reference leaves. -/
def codes (X : FVec Ideal S1x3072x5120 .bf16) : FVec Ideal S3072x5120 .fp8e5m2 :=
  fun j => Spec.code (Scale.rinv (Spec.rowMax (arow X (j 0)))) (X (ix3 0 (j 0) (j 1)))

/-- The scales the reference leaves. -/
def scales (X : FVec Ideal S1x3072x5120 .bf16) : FVec Ideal S3072x1 .f32 :=
  fun j => Scale.rscale (Spec.rowMax (arow X (j 0)))

/-- Where the windows sit at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The activations the host hands over: the argument, its leading axis dropped. -/
theorem host_x (c : Dev nD) (i : S3072x5120.Idx) : V m c main_v0 i = m ((c : Thread nD τ).loc main_arg0) (ix3 0 (i 0) (i 1)) := by
  entry_read
  pointwise
  blk_ext

/-- The weight scales the host hands over: the argument as one row. -/
theorem host_s (c : Dev nD) (i : S1x5120.Idx) : V m c main_v1 i = m ((c : Thread nD τ).loc main_arg2) (ix1 (i 1)) := by
  entry_read
  pointwise
  blk_ext

/-- The point's block of the activations. -/
def xblk (c : Dev nD) (t : Fin cfg0.N) : Vec Ideal S3072x5120 .bf16 := iblk m c 0 t
/-- The point's block of the weights. -/
def wblk (c : Dev nD) (t : Fin cfg0.N) : Vec Ideal S5120x5120 .fp8e4m3 := iblk m c 1 t
/-- The point's block of the weight scales. -/
def sblk (c : Dev nD) (t : Fin cfg0.N) : Vec Ideal S1x5120 .f32 := iblk m c 2 t

/-- The activations are read whole, -/
theorem xblk_apply (c : Dev nD) (t : Fin cfg0.N) (y : S3072x5120.Idx) :
    xblk m c t y = m ((c : Thread nD τ).loc main_arg0) (ix3 0 (y 0) (y 1)) := by
  refine Eq.trans ?_ (host_x m c y)
  unfold xblk
  blk_ext [iblk, idx t]

/-- so are the weights, -/
theorem wblk_apply (c : Dev nD) (t : Fin cfg0.N) (y : S5120x5120.Idx) :
    wblk m c t y = m ((c : Thread nD τ).loc main_arg1) y := by
  unfold wblk
  blk_ext [iblk, V, idx t]

/-- and their scales. -/
theorem sblk_apply (c : Dev nD) (t : Fin cfg0.N) (y : S1x5120.Idx) :
    sblk m c t y = m ((c : Thread nD τ).loc main_arg2) (ix1 (y 1)) := by
  refine Eq.trans ?_ (host_s m c y)
  unfold sblk
  blk_ext [iblk, idx t]

/-- A row of the block is a row of the argument. -/
theorem row_block (c : Dev nD) (t : Fin cfg0.N) (r : Fin 3072) :
    RefBlock.row (xblk m c t) r = arow (m ((c : Thread nD τ).loc main_arg0)) r :=
  funext fun k => xblk_apply m c t (ix2 r k)

/-- A scale of the point's block, at its row of the column. -/
theorem point_scales (c : Dev nD) (t : Fin cfg0.N) (y : S3072x1.Idx) (j : S3072x1.Idx) (h : j 0 = y 0) :
    out0_5 (xblk m c t) (wblk m c t) (sblk m c t) y = scales (m ((c : Thread nD τ).loc main_arg0)) j := by
  have hz : (![0, 0] : Fin 2 → Nat) = fun _ => 0 := funext fun a => by fin_cases a <;> rfl
  have h0 : View.ld (xblk m c t) r0_0 = xblk m c t := View.ld_unit_zero hz _ _
  unfold out0_5 k0_pay6
  rw [View.canon_unit_zero hz, h0, RefBlock.scales_apply, row_block m c t (y 0), ← h]
  rfl

/-- A code of the point's block, at its place in the array. -/
theorem point_codes (c : Dev nD) (t : Fin cfg0.N) (y : S3072x5120.Idx) (j : S3072x5120.Idx) (h : j 0 = y 0) (h1 : j 1 = y 1) :
    out0_4 (xblk m c t) (wblk m c t) (sblk m c t) y = codes (m ((c : Thread nD τ).loc main_arg0)) j := by
  have hz : (![0, 0] : Fin 2 → Nat) = fun _ => 0 := funext fun a => by fin_cases a <;> rfl
  have h0 : View.ld (xblk m c t) r0_0 = xblk m c t := View.ld_unit_zero hz _ _
  unfold out0_4 k0_pay7
  rw [View.canon_unit_zero hz, h0, RefBlock.codes_apply, row_block m c t (y 0), xblk_apply]
  unfold codes
  rw [h, h1]

/-- An entry of the point's block of products, at its place in the array. -/
theorem point_products (c : Dev nD) (t : Fin cfg0.N) (y : S3072x5120.Idx) (j : S3072x5120.Idx) (h : j 0 = y 0) (h1 : j 1 = y 1) :
    out0_3 (xblk m c t) (wblk m c t) (sblk m c t) y
      = products (m ((c : Thread nD τ).loc main_arg0)) (m ((c : Thread nD τ).loc main_arg1)) (m ((c : Thread nD τ).loc main_arg2)) j := by
  have hz : (![0, 0] : Fin 2 → Nat) = fun _ => 0 := funext fun a => by fin_cases a <;> rfl
  have h0 : View.ld (xblk m c t) r0_0 = xblk m c t := View.ld_unit_zero hz _ _
  have hw : View.ld (wblk m c t) r0_1 = wblk m c t := View.ld_unit_zero hz _ _
  have hs : View.ld (sblk m c t) r0_2 = sblk m c t := View.ld_unit_zero hz _ _
  unfold out0_3 k0_pay7 k0_pay6
  rw [View.canon_unit_zero hz, h0, hw, hs, RefBlock.products_apply, row_block m c t (y 0)]
  simp only [wblk_apply, sblk_apply]
  unfold products
  rw [h, h1]
  rfl

/-- The scales after the run. -/
theorem final_scales (c : Dev nD) : (dats m 0 c).arrAt 5 (cfgs 0).N = scales (m ((c : Thread nD τ).loc main_arg0)) := by
  refine (dats m 0 c).arrAt_eq_of_covers 5 (scales (m ((c : Thread nD τ).loc main_arg0))) (by decide +kernel) fun t hf y => ?_
  blk_simp
  rw [after0_5]
  refine point_scales m c t y _ (Fin.ext ?_)
  blk_simp [idx t]

/-- The codes after the run. -/
theorem final_codes (c : Dev nD) : (dats m 0 c).arrAt 4 (cfgs 0).N = codes (m ((c : Thread nD τ).loc main_arg0)) := by
  refine (dats m 0 c).arrAt_eq_of_covers 4 (codes (m ((c : Thread nD τ).loc main_arg0))) (by decide +kernel) fun t hf y => ?_
  blk_simp
  rw [after0_4]
  refine point_codes m c t y _ (Fin.ext ?_) (Fin.ext ?_) <;> blk_simp [idx t]

/-- The products after the run. -/
theorem final_products (c : Dev nD) : (dats m 0 c).arrAt 3 (cfgs 0).N
    = products (m ((c : Thread nD τ).loc main_arg0)) (m ((c : Thread nD τ).loc main_arg1)) (m ((c : Thread nD τ).loc main_arg2)) := by
  refine (dats m 0 c).arrAt_eq_of_covers 3
    (products (m ((c : Thread nD τ).loc main_arg0)) (m ((c : Thread nD τ).loc main_arg1)) (m ((c : Thread nD τ).loc main_arg2)))
    (by decide +kernel) fun t hf y => ?_
  blk_simp
  rw [after0_3]
  refine point_products m c t y _ (Fin.ext ?_) (Fin.ext ?_) <;> blk_simp [idx t]

end Cert.RefArrays
-- ==== Proof.Equation.lean ====
/-
  THE EQUATION: on activations that are bfloat16 numbers or infinite, the terms the kernel leaves in its three arrays are
  the terms the reference leaves in its own.
-/
module

public import proofs.«01_k».proof.Pre_representable
public import proofs.«01_k».proof.Proof.KernelArrays
public import proofs.«01_k».proof.Proof.RefArrays

@[expose] public section

set_option maxRecDepth 16384

noncomputable section

namespace Cert.Equation

open Idealize.ShloMosaic

/-- The precondition's own side condition: a scalar broadcasts to the activations' shape. -/
theorem preFacts : Cert.Pre_representable.Facts := ⟨by decide⟩

/-- A bit that is the `or` of two comparisons is one just when one of them holds. -/
theorem or_cmp {p q : Prop} [Decidable p] [Decidable q] (h : IntOp.ori (BitVec.ofBool (decide p)) (BitVec.ofBool (decide q)) = 1#1) : p ∨ q := by
  by_cases hp : p
  · exact .inl hp
  · by_cases hq : q
    · exact .inr hq
    · simp [hp, hq, IntOp.ori] at h

/-- The bfloat16 word of infinity denotes it. -/
theorem ofBits_top16 : Ideal.ofBits .bf16 0x7F80#16 = ⊤ := by
  show Ideal.ieee 8 7 0x7F80#16 = _
  unfold Ideal.ieee
  rw [if_pos (by decide), if_pos (by decide), if_neg (by decide)]

/-- What the precondition says of one element: its magnitude is at most the largest bfloat16 number, or infinite. -/
theorem representable_of_pre [Cert.Pre_representable.Facts] (x : FVec Ideal Cert.KernelIdeal.S1x3072x5120 .bf16)
    (w : FVec Ideal Cert.KernelIdeal.S5120x5120 .fp8e4m3) (s : FVec Ideal Cert.KernelIdeal.S5120 .f32)
    (h : Cert.Pre_representable.fn (F := Ideal) x w s = fun _ => 1#1) (i : Cert.KernelIdeal.S1x3072x5120.Idx) :
    Scale.Representable (max (x i) (-(x i))) := by
  have h1 := congrFun h i
  unfold Cert.Pre_representable.fn at h1
  have h2 : IntOp.ori (BitVec.ofBool (decide (max (x i) (-(x i)) ≤ Scale.largest))) (BitVec.ofBool (decide (max (x i) (-(x i)) = Ideal.ofBits .bf16 0x7F80#16))) = 1#1 := h1
  exact (or_cmp h2).imp id fun e => e.trans ofBits_top16

/-- So is the largest magnitude of every row. -/
theorem row_representable [Cert.Pre_representable.Facts] (x : FVec Ideal Cert.KernelIdeal.S1x3072x5120 .bf16)
    (w : FVec Ideal Cert.KernelIdeal.S5120x5120 .fp8e4m3) (s : FVec Ideal Cert.KernelIdeal.S5120 .f32)
    (h : Cert.Pre_representable.fn (F := Ideal) x w s = fun _ => 1#1) (i : Fin 3072) :
    Scale.Representable (Spec.rowMax (KernelArrays.arow x i)) :=
  Spec.representable_rowMax _ fun k => representable_of_pre x w s h (ix3 0 i k)

/-- THE SCALES AGREE. -/
theorem scales_eq (x : FVec Ideal Cert.KernelIdeal.S1x3072x5120 .bf16) (h : ∀ i, Scale.Representable (Spec.rowMax (KernelArrays.arow x i))) :
    KernelArrays.scales x = RefArrays.scales x := by
  funext j
  exact Scale.scale_eq (h (j 0))

/-- THE CODES AGREE. -/
theorem codes_eq (x : FVec Ideal Cert.KernelIdeal.S1x3072x5120 .bf16) (h : ∀ i, Scale.Representable (Spec.rowMax (KernelArrays.arow x i))) :
    KernelArrays.codes x = RefArrays.codes x := by
  funext j
  exact congrArg (fun s => Spec.code s (x (ix3 0 (j 0) (j 1)))) (Scale.inv_eq (h (j 0)))

/-- THE PRODUCTS AGREE. -/
theorem products_eq (x : FVec Ideal Cert.KernelIdeal.S1x3072x5120 .bf16) (w : FVec Ideal Cert.KernelIdeal.S5120x5120 .fp8e4m3)
    (s : FVec Ideal Cert.KernelIdeal.S5120 .f32) (h : ∀ i, Scale.Representable (Spec.rowMax (KernelArrays.arow x i))) :
    KernelArrays.products x w s = RefArrays.products x w s := by
  funext j
  exact congrArg₂ (fun a b => Spec.entry a b (KernelArrays.arow x (j 0)) (fun k => w (ix2 (j 1) k)) (s (ix1 (j 1))))
    (Scale.inv_eq (h (j 0))) (Scale.scale_eq (h (j 0)))

end Cert.Equation
-- ==== Proof.lean ====
/-
  THE CERTIFICATE of the row-scaled 8-bit product: the frames of the three programs (generated), the idealization of the
  kernel (its own text, nothing rewritten), and the algebraic claim: on activations that are bfloat16 numbers or infinite
  the kernel and the reference leave the same three arrays — products, 8-bit codes and scales — over extended reals.
  What the kernel's arrays hold is in Proof/KernelArrays.lean, what the reference's hold in Proof/RefArrays.lean, and that
  the two are equal in Proof/Equation.lean.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.Equation

@[expose] public section

noncomputable section

namespace Cert.Proof

open Idealize.ShloMosaic Idealize.SL.Sem

/-- The algebraic claim: both programs run, and their three results are equal element by element. -/
theorem algebraic : Cert.algebraic_KernelIdeal_ReferenceIdeal_pre_representable (hKernelIdeal := Cert.KernelIdeal.Gen.facts)
    (hReferenceIdeal := Cert.ReferenceIdeal.Gen.facts) (hPre_representable := Cert.Equation.preFacts) := by
  intro m g m' g' hpre hargs
  haveI := Cert.Equation.preFacts
  have hrow := fun c => Cert.Equation.row_representable _ _ _ (hpre c)
  refine ⟨fun c => KernelArrays.products (m (c.tc.loc Cert.KernelIdeal.main_arg0)) (m (c.tc.loc Cert.KernelIdeal.main_arg1)) (m (c.tc.loc Cert.KernelIdeal.main_arg2)),
    fun c => KernelArrays.codes (m (c.tc.loc Cert.KernelIdeal.main_arg0)),
    fun c => KernelArrays.scales (m (c.tc.loc Cert.KernelIdeal.main_arg0)), ?_, ?_⟩
  · refine (θ_run _ _ _).mono (fun r h c => ?_) (Cert.KernelIdeal.Value.run_blocks m g)
    obtain ⟨h0, h1, h2, k⟩ := h c
    exact ⟨h0.trans (KernelArrays.final_products m c), h1.trans (KernelArrays.final_codes m c), h2.trans (KernelArrays.final_scales m c), k⟩
  · refine (θ_run _ _ _).mono (fun r h c => ?_) (RefArrays.run_blocks m' g')
    obtain ⟨h0, h1, h2, k⟩ := h c
    obtain ⟨a0, a1, a2⟩ := hargs c
    refine ⟨(h0.trans (RefArrays.final_products m' c)).trans ?_, (h1.trans (RefArrays.final_codes m' c)).trans ?_,
      (h2.trans (RefArrays.final_scales m' c)).trans ?_, k⟩
    · rw [a0, a1, a2]
      exact (Cert.Equation.products_eq _ _ _ (hrow c)).symm
    · rw [a0]
      exact (Cert.Equation.codes_eq _ (hrow c)).symm
    · rw [a0]
      exact (Cert.Equation.scales_eq _ (hrow c)).symm

/-- Everything the certificate claims. -/
theorem claim : Cert.Claim := ⟨Cert.Kernel.Gen.facts, Cert.KernelIdeal.Gen.facts, Cert.ReferenceIdeal.Gen.facts, Cert.Equation.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
